-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_launched_values [hPre_launched_values : Cert.Pre_launched_values.Facts] (m : (ℓ : Loc Cert.KernelIdeal.nD Cert.KernelIdeal.τ Cert.KernelIdeal.sig) → Buf (Elt Ideal) ℓ) : Prop :=
  ∀ c : Dev Cert.KernelIdeal.nD,
    (Cert.Pre_launched_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_launched_values [hPre_launched_values : Cert.Pre_launched_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_launched_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_launched_values [hKernelIdeal : Cert.KernelIdeal.Facts] [hPre_launched_values : Cert.Pre_launched_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_launched_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_launched_values [hReferenceIdeal : Cert.ReferenceIdeal.Facts] [hPre_launched_values : Cert.Pre_launched_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_launched_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal_pre_launched_values [hKernelIdeal : Cert.KernelIdeal.Facts] [hReferenceIdeal : Cert.ReferenceIdeal.Facts] [hPre_launched_values : Cert.Pre_launched_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_launched_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_launched_values : Cert.Pre_launched_values.Facts),
    quiescent_Kernel (hKernel := hKernel)
    ∧ quiescent_KernelIdeal (hKernelIdeal := hKernelIdeal)
    ∧ quiescent_KernelIdeal_pre_launched_values (hKernelIdeal := hKernelIdeal) (hPre_launched_values := hPre_launched_values)
    ∧ quiescent_ReferenceIdeal (hReferenceIdeal := hReferenceIdeal)
    ∧ quiescent_ReferenceIdeal_pre_launched_values (hReferenceIdeal := hReferenceIdeal) (hPre_launched_values := hPre_launched_values)
    ∧ preserves_Kernel_KernelIdeal
    ∧ algebraic_KernelIdeal_ReferenceIdeal_pre_launched_values (hKernelIdeal := hKernelIdeal) (hReferenceIdeal := hReferenceIdeal) (hPre_launched_values := hPre_launched_values)
-- ==== Pre_launched_values.lean ====
abbrev S4x4096 : Shape := ⟨2, ![4, 4096]⟩
abbrev S4x4096x768 : Shape := ⟨3, ![4, 4096, 768]⟩
abbrev S4096x768 : Shape := ⟨2, ![4096, 768]⟩
abbrev S768 : Shape := ⟨1, ![768]⟩
abbrev S_ : Shape := ⟨0, ![]⟩
abbrev S1x4096x768 : Shape := ⟨3, ![1, 4096, 768]⟩
abbrev S1x1x768 : Shape := ⟨3, ![1, 1, 768]⟩

class Facts : Prop where
  bcast_S_S4x4096x768 : S_.BroadcastsInDim S4x4096x768 (![] : Fin 0 → Fin S4x4096x768.rank)
  bcast_S_S4096x768 : S_.BroadcastsInDim S4096x768 (![] : Fin 0 → Fin S4096x768.rank)
  bcast_S4096x768_S1x4096x768_1_2 : S4096x768.BroadcastsInDim S1x4096x768 (![1, 2] : Fin 2 → Fin S1x4096x768.rank)
  bcast_S1x4096x768_S4x4096x768_0_1_2 : S1x4096x768.BroadcastsInDim S4x4096x768 (![0, 1, 2] : Fin 3 → Fin S4x4096x768.rank)
  bcast_S_S768 : S_.BroadcastsInDim S768 (![] : Fin 0 → Fin S768.rank)
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)

variable [Facts]

def fn {F : FTy → Type} [FloatOps F] (main_arg0 : IVec S4x4096 32) (main_arg1 : FVec F S4x4096x768 .f32) (main_arg2 : FVec F S4096x768 .f32) (main_arg3 : FVec F S768 .f32) (main_arg4 : FVec F S768 .f32) : IVec S4x4096x768 1 :=
  let main_v0 : FVec F S4x4096x768 .f32 := Host.absf main_arg1
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_v3 : FVec F S4096x768 .f32 := Host.absf main_arg2
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : IVec S1x4096x768 1 := broadcastInDim S1x4096x768 ![1, 2] bcast_S4096x768_S1x4096x768_1_2 main_v5
  let main_v7 : IVec S4x4096x768 1 := broadcastInDim S4x4096x768 ![0, 1, 2] bcast_S1x4096x768_S4x4096x768_0_1_2 main_v6
  let main_v8 : IVec S4x4096x768 1 := andi main_v2 main_v7
  let main_cst_1 : FVec F S_ .f32 := constant S_ .f32 0x3F800000#32
  let main_v9 : FVec F S768 .f32 := broadcastInDim S768 ![] bcast_S_S768 main_cst_1
  let main_v10 : IVec S768 1 := cmpf .oeq main_arg3 main_v9
  let main_v11 : IVec S1x1x768 1 := broadcastInDim S1x1x768 ![2] bcast_S768_S1x1x768_2 main_v10
  let main_v12 : IVec S4x4096x768 1 := broadcastInDim S4x4096x768 ![0, 1, 2] bcast_S1x1x768_S4x4096x768_0_1_2 main_v11
  let main_v13 : IVec S4x4096x768 1 := andi main_v8 main_v12
  let main_cst_2 : FVec F S_ .f32 := constant S_ .f32 0x00000000#32
  let main_v14 : FVec F S768 .f32 := broadcastInDim S768 ![] bcast_S_S768 main_cst_2
  let main_v15 : IVec S768 1 := cmpf .oeq main_arg4 main_v14
  let main_v16 : IVec S1x1x768 1 := broadcastInDim S1x1x768 ![2] bcast_S768_S1x1x768_2 main_v15
  let main_v17 : IVec S4x4096x768 1 := broadcastInDim S4x4096x768 ![0, 1, 2] bcast_S1x1x768_S4x4096x768_0_1_2 main_v16
  let main_v18 : IVec S4x4096x768 1 := andi main_v13 main_v17
  main_v18
-- ==== Kernel.lean ====
abbrev S4x4096 : Shape := ⟨2, ![4, 4096]⟩
abbrev S4x4096x768 : Shape := ⟨3, ![4, 4096, 768]⟩
abbrev S4096x768 : Shape := ⟨2, ![4096, 768]⟩
abbrev S768 : Shape := ⟨1, ![768]⟩
abbrev S1x2048x768 : Shape := ⟨3, ![1, 2048, 768]⟩
abbrev S2048x768 : Shape := ⟨2, ![2048, 768]⟩
abbrev S1x16x768 : Shape := ⟨3, ![1, 16, 768]⟩
abbrev S16x768 : Shape := ⟨2, ![16, 768]⟩
abbrev S16 : Shape := ⟨1, ![16]⟩
abbrev S16x1 : Shape := ⟨2, ![16, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x4096, .i32⟩
  | .hbm, ⟨1, _⟩ => ⟨S4x4096x768, .f32⟩
  | .hbm, ⟨2, _⟩ => ⟨S4096x768, .f32⟩
  | .hbm, ⟨3, _⟩ => ⟨S768, .f32⟩
  | .hbm, ⟨4, _⟩ => ⟨S768, .f32⟩
  | .hbm, ⟨5, _⟩ => ⟨S4x4096x768, .f32⟩
  | .local _ .vmem, ⟨0, _⟩ => ⟨S1x2048x768, .f32⟩
  | .local _ .vmem, ⟨1, _⟩ => ⟨S1x2048x768, .f32⟩
  | .local _ .vmem, ⟨2, _⟩ => ⟨S2048x768, .f32⟩
  | .local _ .vmem, ⟨3, _⟩ => ⟨S2048x768, .f32⟩
  | .local _ .vmem, ⟨4, _⟩ => ⟨S1x2048x768, .f32⟩
  | .local _ .vmem, ⟨5, _⟩ => ⟨S1x2048x768, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "inv_d" => some ((1 / 768 : ℝ) : EReal)
  | _ => none
-- ==== ReferenceIdeal.lean ====
abbrev S4x4096 : Shape := ⟨2, ![4, 4096]⟩
abbrev S4x4096x768 : Shape := ⟨3, ![4, 4096, 768]⟩
abbrev S4096x768 : Shape := ⟨2, ![4096, 768]⟩
abbrev S768 : Shape := ⟨1, ![768]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x768 : Shape := ⟨3, ![1, 4096, 768]⟩
abbrev S4x4096x1 : Shape := ⟨3, ![4, 4096, 1]⟩
abbrev S1x1x768 : Shape := ⟨3, ![1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4x4096x768, .f32⟩
  | .hbm, ⟨2, _⟩ => ⟨S4096x768, .f32⟩
  | .hbm, ⟨3, _⟩ => ⟨S768, .f32⟩
  | .hbm, ⟨4, _⟩ => ⟨S768, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x768, .f32⟩
  | .hbm, ⟨25, _⟩ => ⟨S4096x768, .i1⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S1x4096x768, .f32⟩
  | .hbm, ⟨30, _⟩ => ⟨S4x4096x768, .f32⟩
  | .hbm, ⟨31, _⟩ => ⟨S4x4096x768, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x768, .f32⟩
  | .hbm, ⟨39, _⟩ => ⟨S4x4096x768, .f32⟩
  | .hbm, ⟨40, _⟩ => ⟨S4x4096x768, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x768, .f32⟩
  | .hbm, ⟨48, _⟩ => ⟨S4x4096x768, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x768, .f32⟩
  | .hbm, ⟨54, _⟩ => ⟨S4x4096x768, .f32⟩
  | .hbm, ⟨55, _⟩ => ⟨S1x1x768, .f32⟩
  | .hbm, ⟨56, _⟩ => ⟨S4x4096x768, .f32⟩
  | .hbm, ⟨57, _⟩ => ⟨S4x4096x768, .f32⟩
  | .hbm, ⟨58, _⟩ => ⟨S1x1x768, .f32⟩
  | .hbm, ⟨59, _⟩ => ⟨S4x4096x768, .f32⟩
  | .hbm, ⟨60, _⟩ => ⟨S4x4096x768, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]
-- ==== Proof.Block.lean ====
/- One chunk of the kernel's block: sixteen rows, each normalised by itself. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe

/-- The factor the kernel multiplies every sum by: its named constant. -/
def invD : EReal := Named.named (F := Ideal) κ "inv_d" (φ := .f32) 0x3AAAAAAB#32

/-- The small positive number both programs add to the variance. -/
def eps : EReal := Ideal.ofBits .f32 0x2B8CBCCC#32

/-- The kernel's mean of a row: its sum times the named constant. -/
def kMean (x : Fin 768 → EReal) : EReal := (∑ k, x k) * invD

/-- The kernel's reciprocal standard deviation of a row: the mean of the squares less the square of the mean, the
    small number added, and the reciprocal root taken. -/
def kInv (x : Fin 768 → EReal) : EReal :=
  Ideal.rsqrt ((∑ k, x k * x k) * invD - kMean x * kMean x + eps)

/-- The kernel's normalised row. -/
def kRow (x : Fin 768 → EReal) (j : Fin 768) : EReal := x j * kInv x - kMean x * kInv x

/-- A chunk at an index is the normalised row of the sum of the two rows loaded. -/
theorem chunk_apply (a : Vec Ideal S1x16x768 .f32) (b : Vec Ideal S16x768 .f32) (u : Fin 1) (r : Fin 16) (j : Fin 768) :
    k0_pay2 (F := Ideal) a b (ix3 u r j) = kRow (fun k => a (ix3 0 r k) + b (ix2 r k)) j := by
  pointwise [k0_pay2]
  simp only [kRow, kInv, kMean, invD, eps]

/-- What the kernel leaves in a block whose inputs are `x0` and `x1`: at row `r`, the normalised sum of their rows. -/
def blockOut (x0 : Vec Ideal S1x2048x768 .f32) (x1 : Vec Ideal S2048x768 .f32) (y : S1x2048x768.Idx) : EReal :=
  kRow (fun k => x0 (ix3 0 (y 1) k) + x1 (ix2 (y 1) k)) (y 2)

/-- The store of the chunk at row `k` agrees with `blockOut` wherever it lies. -/
theorem piece (k : Nat) (h0 : ∀ a, (![0, k, 0] : Fin 3 → Nat) a + S1x16x768.size a ≤ S1x2048x768.size a)
    (h1 : ∀ a, (![k, 0] : Fin 2 → Nat) a + S16x768.size a ≤ S2048x768.size a)
    (X : Vec Ideal S1x2048x768 .f32) (Y : Vec Ideal S2048x768 .f32) (y : S1x2048x768.Idx) :
    View.RectAt (Val := Elt Ideal) (e := .f32) y (Rect.unit (s := S1x2048x768) ![0, k, 0] S1x16x768.size h0)
      (k0_pay2 (F := Ideal) (View.ld X (Rect.unit (s := S1x2048x768) ![0, k, 0] S1x16x768.size h0))
        (View.ld Y (Rect.unit (s := S2048x768) ![k, 0] S16x768.size h1)))
      (blockOut X Y y) := by
  intro x hx
  have hy : ∀ a, (y a : Nat) = (![0, k, 0] : Fin 3 → Nat) a + x a := fun a => by
    rw [← hx, Rect.emb_apply]; show (![0, k, 0] : Fin 3 → Nat) a + 1 * (x a : Nat) = _; omega
  clear hx
  change S1x16x768.Idx at x
  idx_vars x
  have hr : (y 1 : Nat) = k + x1 := hy 1
  have hc : (y 2 : Nat) = 0 + x2 := hy 2
  rw [chunk_apply, show x2 = y 2 from Fin.ext (by omega)]
  unfold blockOut
  refine congrArg (kRow · (y 2)) (funext fun l => congrArg₂ (· + ·) ?_ ?_)
  · refine View.ld_unit_apply_of X _ _ h0 _ _ fun a => ?_
    match a with
    | 0 => exact (Nat.zero_add _).symm
    | 1 => exact hr
    | 2 => exact (Nat.zero_add _).symm
  · refine View.ld_unit_apply_of Y _ _ h1 _ _ fun a => ?_
    match a with
    | 0 => exact hr
    | 1 => exact (Nat.zero_add _).symm

/-- The block's contents after the body: `blockOut` of the two input blocks. -/
theorem out_apply (x0 : Vec Ideal S1x2048x768 .f32) (x1 : Vec Ideal S2048x768 .f32) (y : S1x2048x768.Idx) :
    out0_2 (F := Ideal) x0 x1 y = blockOut x0 x1 y := by
  refine View.canon_eq_of_allAt _ y _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  repeat refine View.allAt_cons _ _ _ (piece _ _ _ x0 x1 y) ?_
  exact View.allAt_nil _ _

end Cert.KernelIdeal.Block
-- ==== Proof.KernelValue.lean ====
/- The kernel's result array after the run, index by index. -/
module

public import proofs.«01_k».proof.Proof.Block
public import proofs.«01_k».proof.Proof.Gen.KernelIdeal.Value

@[expose] public section

set_option maxRecDepth 16384

noncomputable section

namespace Cert.KernelIdeal.Result

open Cert.KernelIdeal Cert.KernelIdeal.Gen Cert.KernelIdeal.Block Idealize.ShloMosaic Idealize.ShloMosaic.TcCoe
  Idealize.SL.Sem

variable (m : (ℓ : Loc nD τ sig) → Buf (Elt Ideal) ℓ)

/-- The kernel's result: at batch `b` and position `s`, the normalised sum of the input's row and the position's. -/
def arrayOut (X : Vec Ideal S4x4096x768 .f32) (Y : Vec Ideal S4096x768 .f32) (i : S4x4096x768.Idx) : EReal :=
  kRow (fun k => X (ix3 (i 0) (i 1) k) + Y (ix2 (i 1) k)) (i 2)

/-- The three windows move together: the result's block has the input's place, and the position block's place is the
    result's second coordinate. -/
theorem idx (t : Fin grid0.N) :
    win0_0.index t = win0_2.index t ∧ win0_1.index t = ![win0_2.index t 1, 0] ∧ win0_2.index t 2 = 0 :=
  (by decide +kernel : ∀ t : Fin grid0.N,
    win0_0.index t = win0_2.index t ∧ win0_1.index t = ![win0_2.index t 1, 0] ∧ win0_2.index t 2 = 0) t

/-- The result array after the run is `arrayOut` of the two argument arrays. -/
theorem final_out (c : Dev nD) :
    (dats m 0 c).arrAt 2 cfg0.N
      = arrayOut (m ((c.tc : Thread nD τ).loc main_arg1)) (m ((c.tc : Thread nD τ).loc main_arg2)) := by
  refine (dats m 0 c).arrAt_eq_of_covers 2 _ (by decide +kernel) fun t hf y => ?_
  blk_simp
  rw [after0_2]
  erw [out_apply]
  obtain ⟨e0, e1, e2⟩ := idx t
  change S1x2048x768.Idx at y
  idx_vars y
  unfold blockOut arrayOut
  have hc : y2 = (win0_2.blk t).view.emb (ix3 y0 y1 y2) 2 := Fin.ext (by blk_simp [e2])
  refine (congrArg₂ kRow (funext fun l => congrArg₂ (· + ·) ?_ ?_) hc)
  · blk_ext [iblk, V, e0, e2]
  · blk_ext [iblk, V, e1, e2]

end Cert.KernelIdeal.Result
-- ==== Proof.RefValue.lean ====
/- The reference's result array, index by index. -/
module

public import proofs.«01_k».proof.Proof.Gen.ReferenceIdeal.Run
public import Idealize.ShloMosaic.Lib.Pointwise
public import Idealize.ShloMosaic.Lib.Routing.Ops
public import Idealize.ShloMosaic.Lib.ReduceAll
public import Idealize.ShloMosaic.Lib.Tactic.WordOmega

@[expose] public section

set_option maxRecDepth 16384

noncomputable section

namespace Cert.ReferenceIdeal.Result

open Cert.ReferenceIdeal Cert.ReferenceIdeal.Gen Idealize.ShloMosaic Idealize.ShloMosaic.TcCoe

/-- The positions looked up, one a row: the row's number, wrapped round where it is negative. -/
def posIdx : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32)))
      (iotaInDim S4096 32 0))

/-- Which of the positions lie in the table. -/
def posIn : IVec S4096 1 :=
  Host.reduce IntOp.andi
    (andi (cmpi .sge posIdx (broadcastInDim S4096x1 ![] bcast_S_S4096x1 (constantI S_ 32 0#32)))
      (cmpi .sle posIdx (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The rows looked up in the position table. -/
def taken (T : Vec Ideal S4096x768 .f32) : Vec Ideal S4096x768 .f32 :=
  select (broadcastInDim S4096x768 ![0] bcast_S4096_S4096x768_0 posIn)
    (Host.gather gather_S4096x768_S4096x1_S4096x768_1_0_n_n_0_1_1768 T posIdx)
    (broadcastInDim S4096x768 ![] bcast_S_S4096x768 (constant (F := Ideal) S_ .f32 0x7FC00000#32))

/-- Position `r` is `r` itself. -/
theorem posIdx_apply (r : Fin 4096) (u : Fin 1) : posIdx (ix2 r u) = BitVec.ofNat 32 r.val := by
  pointwise [posIdx]
  have := r.isLt
  word_omega

/-- Every position lies in the table. -/
theorem posIn_apply (r : S4096.Idx) : posIn r = 1#1 := by
  refine Host.reduce_andi_one _ _ _ _ _ rfl fun i => ?_
  idx_vars i
  pointwise
  rw [posIdx_apply]
  have := i0.isLt
  word_omega

/-- The lookup gives the table back. -/
theorem taken_eq (T : Vec Ideal S4096x768 .f32) : taken T = T := by
  funext i
  idx_vars i
  pointwise [taken]
  rw [posIn_apply]
  exact (if_pos rfl).trans (Routing.gather_row gather_S4096x768_S4096x1_S4096x768_1_0_n_n_0_1_1768 rfl rfl rfl rfl rfl T
    posIdx i0 i1 i0 (posIdx_apply i0 0) (by norm_num))

/-- The sum the reference normalises. -/
def total (X : Vec Ideal S4x4096x768 .f32) (T : Vec Ideal S4096x768 .f32) : Vec Ideal S4x4096x768 .f32 :=
  addf (F := Ideal) (φ := .f32) X (broadcastInDim S4x4096x768 ![0, 1, 2] bcast_S1x4096x768_S4x4096x768_0_1_2
    (broadcastInDim S1x4096x768 ![1, 2] bcast_S4096x768_S1x4096x768_1_2 T))

/-- The reference's means, one a row. -/
def means (S : Vec Ideal S4x4096x768 .f32) : Vec Ideal S4x4096x1 .f32 :=
  Host.divf (F := Ideal) (φ := .f32) (broadcastInDim S4x4096x1 ![0, 1] bcast_S4x4096_S4x4096x1_0_1
    (Host.reduceAdd (F := Ideal) (φ := .f32) S (constant (F := Ideal) S_ .f32 0x00000000#32) reducesTo_S4x4096x768_S4x4096_d2 h_S_))
    (broadcastInDim S4x4096x1 ![] bcast_S_S4x4096x1 (constant (F := Ideal) S_ .f32 0x44400000#32))

/-- The reference's deviations from the mean. -/
def devs (S : Vec Ideal S4x4096x768 .f32) : Vec Ideal S4x4096x768 .f32 :=
  subf (F := Ideal) (φ := .f32) S (broadcastInDim S4x4096x768 ![0, 1, 2] bcast_S4x4096x1_S4x4096x768_0_1_2 (means S))

/-- The reference's normalisation of a whole array, scaled by `g` and shifted by `b`. -/
def normed (S : Vec Ideal S4x4096x768 .f32) (g b : Vec Ideal S768 .f32) : Vec Ideal S4x4096x768 .f32 :=
  addf (F := Ideal) (φ := .f32) (mulf (F := Ideal) (φ := .f32) (Host.divf (F := Ideal) (φ := .f32) (devs S)
    (broadcastInDim S4x4096x768 ![0, 1, 2] bcast_S4x4096x1_S4x4096x768_0_1_2
      (Host.sqrt (F := Ideal) (φ := .f32) (addf (F := Ideal) (φ := .f32)
        (means (mulf (F := Ideal) (φ := .f32) (devs S) (devs S)))
        (broadcastInDim S4x4096x1 ![] bcast_S_S4x4096x1 (constant (F := Ideal) S_ .f32 0x2B8CBCCC#32))))))
    (broadcastInDim S4x4096x768 ![0, 1, 2] bcast_S1x1x768_S4x4096x768_0_1_2 (broadcastInDim S1x1x768 ![2] bcast_S768_S1x1x768_2 g)))
    (broadcastInDim S4x4096x768 ![0, 1, 2] bcast_S1x1x768_S4x4096x768_0_1_2 (broadcastInDim S1x1x768 ![2] bcast_S768_S1x1x768_2 b))

/-- The reference's mean of a row: its sum over its length. -/
def rMean (x : Fin 768 → EReal) : EReal := Ideal.div (∑ k, x k) (Ideal.ofBits .f32 0x44400000#32)

/-- The reference's normalised row: the deviation from the mean over the root of the mean square deviation with the
    small number added. -/
def rRow (x : Fin 768 → EReal) (j : Fin 768) : EReal :=
  Ideal.div (x j - rMean x)
    (Ideal.sqrt (rMean (fun k => (x k - rMean x) * (x k - rMean x)) + Ideal.ofBits .f32 0x2B8CBCCC#32))

/-- `normed` at an index is the normalised row, scaled and shifted. -/
theorem normed_apply (S : Vec Ideal S4x4096x768 .f32) (g b : Vec Ideal S768 .f32) (p : Fin 4) (r : Fin 4096) (j : Fin 768) :
    normed S g b (ix3 p r j) = rRow (fun k => S (ix3 p r k)) j * g (ix1 j) + b (ix1 j) := by
  pointwise [normed, devs, means, rRow, rMean]

/-- The sum at an index. -/
theorem total_apply (X : Vec Ideal S4x4096x768 .f32) (T : Vec Ideal S4096x768 .f32) (p : Fin 4) (r : Fin 4096) (j : Fin 768) :
    total X T (ix3 p r j) = X (ix3 p r j) + T (ix2 r j) := by
  pointwise [total]

variable (m : (ℓ : Loc nD τ sig) → Buf (Elt Ideal) ℓ)

/-- The reference's result is `normed` of the sum of the input and the rows looked up. -/
theorem res_eq (c : Dev nD) :
    Value.res_main_v28 m c = normed (total (m ((c.tc : Thread nD τ).loc main_arg1)) (taken (m ((c.tc : Thread nD τ).loc main_arg2))))
      (m ((c.tc : Thread nD τ).loc main_arg3)) (m ((c.tc : Thread nD τ).loc main_arg4)) := by
  with_unfolding_all rfl

/-- The reference's result at an index: the normalised row of the sum of the input's row and the position's, scaled and
    shifted. -/
def arrayOut (X : Vec Ideal S4x4096x768 .f32) (T : Vec Ideal S4096x768 .f32) (g b : Vec Ideal S768 .f32)
    (i : S4x4096x768.Idx) : EReal :=
  rRow (fun k => X (ix3 (i 0) (i 1) k) + T (ix2 (i 1) k)) (i 2) * g (ix1 (i 2)) + b (ix1 (i 2))

/-- The reference's result is `arrayOut` of its arguments. -/
theorem res_arrayOut (c : Dev nD) :
    Value.res_main_v28 m c = arrayOut (m ((c.tc : Thread nD τ).loc main_arg1)) (m ((c.tc : Thread nD τ).loc main_arg2))
      (m ((c.tc : Thread nD τ).loc main_arg3)) (m ((c.tc : Thread nD τ).loc main_arg4)) := by
  rw [res_eq, taken_eq]
  funext i
  change S4x4096x768.Idx at i
  idx_vars i
  rw [normed_apply]
  simp only [total_apply]
  rfl

end Cert.ReferenceIdeal.Result
-- ==== Proof.RowMath.lean ====
/- The arithmetic of one row: on real entries the kernel's way of normalising a row and the reference's agree. -/
module

public import proofs.«01_k».proof.Proof.Block
public import proofs.«01_k».proof.Proof.RefValue

@[expose] public section

set_option maxRecDepth 16384

noncomputable section

namespace Cert.RowMath

open Idealize.ShloMosaic Cert.KernelIdeal.Block Cert.ReferenceIdeal.Result

/-- The kernel's named constant is 1/768. -/
theorem invD_eq : invD = ((1 / 768 : ℝ) : EReal) :=
  IdealRules.named_const.ideal_named_scalar _ _ _ _ rfl

/-- The divisor in the reference's means is 768. -/
theorem width_eq : Ideal.ofBits .f32 0x44400000#32 = ((768 : ℝ) : EReal) := by
  simp [Ideal.ofBits, Ideal.ieee, -EReal.coe_mul]
  norm_num

/-- The small number added to the variance is a positive real. -/
theorem eps_pos : ∃ e : ℝ, 0 < e ∧ eps = (e : EReal) := by
  refine ⟨(2 : ℝ) ^ (-40 : ℤ) * (1 + 834764 / 8388608), by positivity, ?_⟩
  simp [eps, Ideal.ofBits, Ideal.ieee, -EReal.coe_mul]
  norm_num

/-- A sum of reals is the real sum. -/
theorem coe_sum {ι : Type} (s : Finset ι) (f : ι → ℝ) : ∑ k ∈ s, (f k : EReal) = ((∑ k ∈ s, f k : ℝ) : EReal) :=
  (map_sum (⟨⟨Real.toEReal, EReal.coe_zero⟩, EReal.coe_add⟩ : ℝ →+ EReal) f s).symm

/-- The mean square deviation is the mean of the squares less the square of the mean. -/
theorem variance_eq (x : Fin 768 → ℝ) (μ : ℝ) (hμ : μ = (∑ k, x k) * (1 / 768)) :
    (∑ k, (x k - μ) * (x k - μ)) / 768 = (∑ k, x k * x k) * (1 / 768) - μ * μ := by
  have h : ∑ k, (x k - μ) * (x k - μ) = ∑ k, x k * x k - 2 * μ * ∑ k, x k + 768 * (μ * μ) := by
    have e : ∀ k, (x k - μ) * (x k - μ) = x k * x k - 2 * μ * x k + μ * μ := fun k => by ring
    simp only [e, Finset.sum_add_distrib, Finset.sum_sub_distrib, ← Finset.mul_sum, Finset.sum_const,
      Finset.card_univ, Fintype.card_fin, nsmul_eq_mul]
    push_cast
    ring
  have hs : ∑ k, x k = 768 * μ := by rw [hμ]; ring
  rw [h, hs]
  ring

/-- On a row of reals the kernel and the reference give the same normalised row. -/
theorem rows_agree (x : Fin 768 → ℝ) (j : Fin 768) : kRow (fun k => (x k : EReal)) j = rRow (fun k => (x k : EReal)) j := by
  obtain ⟨e, he, hE⟩ := eps_pos
  have hk : kMean (fun k => (x k : EReal)) = (((∑ k, x k) * (1 / 768) : ℝ) : EReal) := by
    rw [kMean, invD_eq, coe_sum, ← EReal.coe_mul]
  have hr : ∀ f : Fin 768 → ℝ, rMean (fun k => (f k : EReal)) = (((∑ k, f k) / 768 : ℝ) : EReal) := fun f => by
    rw [rMean, width_eq, coe_sum, Ideal.div_coe (by norm_num), ← EReal.coe_mul, one_div, div_eq_mul_inv]
  generalize hμ : (∑ k, x k) * (1 / 768) = μ at hk
  have hd : (∑ k, x k) / 768 = μ := by rw [← hμ]; ring
  have hv := variance_eq x μ hμ.symm
  have hv0 : 0 ≤ (∑ k, (x k - μ) * (x k - μ)) / 768 :=
    div_nonneg (Finset.sum_nonneg fun k _ => mul_self_nonneg _) (by norm_num)
  generalize hV : (∑ k, (x k - μ) * (x k - μ)) / 768 = V at hv hv0
  have hpos : 0 < V + e := by linarith
  have hsq : 0 < Real.sqrt (V + e) := Real.sqrt_pos.2 hpos
  have hi : kInv (fun k => (x k : EReal)) = (((Real.sqrt (V + e))⁻¹ : ℝ) : EReal) := by
    rw [kInv, hk, invD_eq, hE]
    simp only [← EReal.coe_mul]
    rw [coe_sum, ← EReal.coe_mul, ← EReal.coe_sub, ← EReal.coe_add, ← hv, Ideal.rsqrt_coe,
      if_neg (not_lt.2 hpos.le), if_neg hpos.ne']
  have hE' : Ideal.ofBits .f32 0x2B8CBCCC#32 = (e : EReal) := hE
  rw [kRow, hi, hk, rRow, hr x, hd, hE']
  simp only [← EReal.coe_sub, ← EReal.coe_mul]
  rw [hr, hV, ← EReal.coe_add, Ideal.sqrt_coe, if_neg (not_lt.2 hpos.le), Ideal.div_coe hsq.ne']
  congr 1
  rw [div_eq_mul_inv]
  ring

end Cert.RowMath
-- ==== Proof.PreValue.lean ====
/- What the launch condition says of the arguments, index by index. -/
module

public import proofs.«01_k».proof.Proof.Gen.Pre_launched_values
public import Idealize.ShloMosaic.Lib.Pointwise

@[expose] public section

set_option maxRecDepth 16384

noncomputable section

namespace Cert.PreValue

open Cert.Pre_launched_values Idealize.ShloMosaic

variable [Facts]

/-- An extended real whose absolute value is below infinity is a real number. -/
theorem real_of_abs_lt (x : EReal)
    (h : FloatOps.absf (F := Ideal) (φ := .f32) x < Ideal.ofBits .f32 0x7F800000#32) : ∃ r : ℝ, x = (r : EReal) := by
  have ht : Ideal.ofBits .f32 0x7F800000#32 = ⊤ := by simp [Ideal.ofBits, Ideal.ieee]
  rw [ht] at h
  induction x using EReal.rec with
  | bot => simp [Ideal.absf_def] at h
  | coe r => exact ⟨r, rfl⟩
  | top => simp [Ideal.absf_def] at h

/-- Two bits whose conjunction is 1 are both 1. -/
theorem both_of_andi (p q : BitVec 1) (h : IntOp.andi p q = 1#1) : p = 1#1 ∧ q = 1#1 := by
  revert h; revert p q; decide

/-- A bit made of a proposition's truth is 1 only where it holds. -/
theorem of_bit (P : Prop) [Decidable P] (h : BitVec.ofBool (decide P) = 1#1) : P := by
  by_contra hP
  rw [decide_eq_false hP] at h
  exact absurd h (by decide)

/-- The condition at an index: the input's and the table's entries are real, the scale is 1 and the shift is 0. -/
theorem at_index (a0 : IVec S4x4096 32) (a1 : FVec Ideal S4x4096x768 .f32) (a2 : FVec Ideal S4096x768 .f32)
    (a3 a4 : FVec Ideal S768 .f32) (p : Fin 4) (r : Fin 4096) (j : Fin 768)
    (h : fn (F := Ideal) a0 a1 a2 a3 a4 (ix3 p r j) = 1#1) :
    (∃ x : ℝ, a1 (ix3 p r j) = (x : EReal)) ∧ (∃ t : ℝ, a2 (ix2 r j) = (t : EReal))
      ∧ a3 (ix1 j) = 1 ∧ a4 (ix1 j) = 0 := by
  pointwise [fn] at h
  obtain ⟨h, h4⟩ := both_of_andi _ _ h
  obtain ⟨h, h3⟩ := both_of_andi _ _ h
  obtain ⟨h1, h2⟩ := both_of_andi _ _ h
  exact ⟨real_of_abs_lt _ (of_bit _ h1), real_of_abs_lt _ (of_bit _ h2), of_bit _ h3, of_bit _ h4⟩

end Cert.PreValue
-- ==== Proof.Agree.lean ====
/- Under the launch condition the kernel's result array and the reference's are one array. -/
module

public import proofs.«01_k».proof.Proof.KernelValue
public import proofs.«01_k».proof.Proof.RowMath
public import proofs.«01_k».proof.Proof.PreValue

@[expose] public section

set_option maxRecDepth 16384

noncomputable section

namespace Cert.Agree

open Idealize.ShloMosaic

/-- Where the input and the position table are real, the scale is 1 and the shift is 0, the two result arrays agree. -/
theorem arrays_agree (a0 : IVec Cert.KernelIdeal.S4x4096 32) (X : Vec Ideal Cert.KernelIdeal.S4x4096x768 .f32)
    (T : Vec Ideal Cert.KernelIdeal.S4096x768 .f32) (g b : Vec Ideal Cert.KernelIdeal.S768 .f32)
    (h : Cert.Pre_launched_values.fn (F := Ideal) a0 X T g b = fun _ => 1#1) :
    Cert.ReferenceIdeal.Result.arrayOut X T g b = Cert.KernelIdeal.Result.arrayOut X T := by
  funext i
  change Cert.KernelIdeal.S4x4096x768.Idx at i
  idx_vars i
  have hp := fun k => PreValue.at_index a0 X T g b i0 i1 k (congrFun h _)
  choose x hx using fun k => (hp k).1
  choose t ht using fun k => (hp k).2.1
  have hrow : (fun k => X (ix3 i0 i1 k) + T (ix2 i1 k) : Fin 768 → EReal) = fun k => ((x k + t k : ℝ) : EReal) :=
    funext fun k => by rw [hx, ht, EReal.coe_add]
  show Cert.ReferenceIdeal.Result.rRow (fun k => X (ix3 i0 i1 k) + T (ix2 i1 k)) i2 * g (ix1 i2) + b (ix1 i2)
    = Cert.KernelIdeal.Block.kRow (fun k => X (ix3 i0 i1 k) + T (ix2 i1 k)) i2
  rw [hrow, RowMath.rows_agree, (hp i2).2.2.1, (hp i2).2.2.2]
  exact (add_zero _).trans (mul_one _)

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Pre_launched_values
public import proofs.«01_k».proof.Proof.Agree

@[expose] public section

noncomputable section

namespace Cert.Proof

open Idealize.ShloMosaic Idealize.SL.Sem Cert.Kernel

/-- The reference ends, with its arguments unchanged and every semaphore counter at zero. -/
theorem reference_frame : Cert.quiescent_ReferenceIdeal (hReferenceIdeal := Cert.ReferenceIdeal.Gen.facts) := fun m g _ =>
  (θ_run _ _ _).mono
    (fun r h => ⟨fun c => (h c).2, sem_eq_zero_of_no_sems (by decide) r.2⟩)
    (Cert.ReferenceIdeal.Value.run (F := Ideal) m g)

/-- The kernel and the reference end with the same result and with their arguments unchanged. -/
theorem results_equal : Cert.algebraic_KernelIdeal_ReferenceIdeal_pre_launched_values
    (hKernelIdeal := Cert.KernelIdeal.Gen.facts) (hReferenceIdeal := Cert.ReferenceIdeal.Gen.facts)
    (hPre_launched_values := Cert.Pre_launched_values.Gen.facts) := by
  intro m g m' g' hpre hargs
  refine ⟨_, Cert.KernelIdeal.Value.run_blocks (F := Ideal) m g, ?_⟩
  refine (θ_run _ _ _).mono (fun r h c => ⟨(h c).1.trans ?_, (h c).2⟩) (Cert.ReferenceIdeal.Value.run (F := Ideal) m' g')
  obtain ⟨_, e1, e2, e3, e4⟩ := hargs c
  rw [Cert.ReferenceIdeal.Result.res_arrayOut, Cert.KernelIdeal.Result.final_out, e1, e2, e3, e4]
  exact Cert.Agree.arrays_agree _ _ _ _ _ (hpre c)

/-- Every claim of the certificate. -/
theorem claim : Cert.Claim :=
  ⟨Cert.Kernel.Gen.facts, Cert.KernelIdeal.Gen.facts, Cert.ReferenceIdeal.Gen.facts, Cert.Pre_launched_values.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "inv_d" .f32 0x3AAAAAAB#32 ((1 / 768 : ℝ) : EReal) rfl,
    results_equal⟩

end Cert.Proof

end
